-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x4096 : Shape := ⟨3, ![4, 1024, 4096]⟩
abbrev S4x1024x32 : Shape := ⟨3, ![4, 1024, 32]⟩
abbrev S4096x256 : Shape := ⟨2, ![4096, 256]⟩
abbrev S256 : Shape := ⟨1, ![256]⟩
abbrev S4096x4096 : Shape := ⟨2, ![4096, 4096]⟩
abbrev S4096x32 : Shape := ⟨2, ![4096, 32]⟩
abbrev S1x256 : Shape := ⟨2, ![1, 256]⟩
abbrev S256x1 : Shape := ⟨2, ![256, 1]⟩
abbrev S4x4x1024 : Shape := ⟨3, ![4, 4, 1024]⟩
abbrev S512x4096 : Shape := ⟨2, ![512, 4096]⟩
abbrev S512x32 : Shape := ⟨2, ![512, 32]⟩
abbrev S1x4x512 : Shape := ⟨3, ![1, 4, 512]⟩
abbrev S256x512 : Shape := ⟨2, ![256, 512]⟩
abbrev S512x256 : Shape := ⟨2, ![512, 256]⟩
abbrev S512x1 : Shape := ⟨2, ![512, 1]⟩
abbrev S512x128 : Shape := ⟨2, ![512, 128]⟩
abbrev S256x256 : Shape := ⟨2, ![256, 256]⟩
abbrev S256x128 : Shape := ⟨2, ![256, 128]⟩
abbrev S8x32x128 : Shape := ⟨3, ![8, 32, 128]⟩
abbrev S8x32x1 : Shape := ⟨3, ![8, 32, 1]⟩
abbrev S8x128 : Shape := ⟨2, ![8, 128]⟩
abbrev S8x1x128 : Shape := ⟨3, ![8, 1, 128]⟩
abbrev S1x128 : Shape := ⟨2, ![1, 128]⟩
abbrev S128 : Shape := ⟨1, ![128]⟩
abbrev S4x128 : Shape := ⟨2, ![4, 128]⟩
abbrev S1x4x128 : Shape := ⟨3, ![1, 4, 128]⟩
abbrev S4x1024x4 : Shape := ⟨3, ![4, 1024, 4]⟩

abbrev nBuf : Space → Nat
  | .hbm => 13
  | .vmem => 12
  | .smem => 0
  | _ => 0

abbrev bufTy : (tb : Table) → Fin (tcTables nBuf tb) → BufTy
  | .hbm, ⟨0, _⟩ => ⟨S4x1024x4096, .fp8e4m3⟩
  | .hbm, ⟨1, _⟩ => ⟨S4x1024x32, .f32⟩
  | .hbm, ⟨2, _⟩ => ⟨S4096x256, .fp8e4m3⟩
  | .hbm, ⟨3, _⟩ => ⟨S256, .f32⟩
  | .hbm, ⟨4, _⟩ => ⟨S256, .f32⟩
  | .hbm, ⟨5, _⟩ => ⟨S4096x4096, .fp8e4m3⟩
  | .hbm, ⟨6, _⟩ => ⟨S4096x32, .f32⟩
  | .hbm, ⟨7, _⟩ => ⟨S1x256, .f32⟩
  | .hbm, ⟨8, _⟩ => ⟨S256x1, .f32⟩
  | .hbm, ⟨9, _⟩ => ⟨S4x4x1024, .i32⟩
  | .hbm, ⟨10, _⟩ => ⟨S4x4x1024, .f32⟩
  | .hbm, ⟨11, _⟩ => ⟨S4x1024x4, .i32⟩
  | .hbm, ⟨12, _⟩ => ⟨S4x1024x4, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x32, .f32⟩
  | .local _ .vmem, ⟨3, _⟩ => ⟨S512x32, .f32⟩
  | .local _ .vmem, ⟨4, _⟩ => ⟨S4096x256, .fp8e4m3⟩
  | .local _ .vmem, ⟨5, _⟩ => ⟨S1x256, .f32⟩
  | .local _ .vmem, ⟨6, _⟩ => ⟨S256x1, .f32⟩
  | .local _ .vmem, ⟨7, _⟩ => ⟨S1x4x512, .i32⟩
  | .local _ .vmem, ⟨8, _⟩ => ⟨S1x4x512, .i32⟩
  | .local _ .vmem, ⟨9, _⟩ => ⟨S1x4x512, .f32⟩
  | .local _ .vmem, ⟨10, _⟩ => ⟨S1x4x512, .f32⟩
  | .local _ .vmem, ⟨11, _⟩ => ⟨S256x512, .f32⟩
  | _, _ => ⟨S4x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x1024x4096 : Shape := ⟨3, ![4, 1024, 4096]⟩
abbrev S4x1024x32 : Shape := ⟨3, ![4, 1024, 32]⟩
abbrev S4096x256 : Shape := ⟨2, ![4096, 256]⟩
abbrev S256 : Shape := ⟨1, ![256]⟩
abbrev S256x1 : Shape := ⟨2, ![256, 1]⟩
abbrev S4x1024x4 : Shape := ⟨3, ![4, 1024, 4]⟩
abbrev S4x1024x32x128 : Shape := ⟨4, ![4, 1024, 32, 128]⟩
abbrev S4x1024x32x1 : Shape := ⟨4, ![4, 1024, 32, 1]⟩
abbrev S4096x4096 : Shape := ⟨2, ![4096, 4096]⟩
abbrev S256x4096 : Shape := ⟨2, ![256, 4096]⟩
abbrev S8x32x4096 : Shape := ⟨3, ![8, 32, 4096]⟩
abbrev S8x4096 : Shape := ⟨2, ![8, 4096]⟩
abbrev S8x1x4096 : Shape := ⟨3, ![8, 1, 4096]⟩
abbrev S1x8x4096 : Shape := ⟨3, ![1, 8, 4096]⟩
abbrev S8x8x1 : Shape := ⟨3, ![8, 8, 1]⟩
abbrev S8x8x4096 : Shape := ⟨3, ![8, 8, 4096]⟩
abbrev S4096 : Shape := ⟨1, ![4096]⟩
abbrev S1x4096 : Shape := ⟨2, ![1, 4096]⟩
abbrev S4096x1 : Shape := ⟨2, ![4096, 1]⟩
abbrev S4096x4 : Shape := ⟨2, ![4096, 4]⟩

abbrev nBuf : Space → Nat
  | .hbm => 9
  | .vmem => 7
  | .smem => 0
  | _ => 0

abbrev bufTy : (tb : Table) → Fin (tcTables nBuf tb) → BufTy
  | .hbm, ⟨0, _⟩ => ⟨S4x1024x4096, .fp8e4m3⟩
  | .hbm, ⟨1, _⟩ => ⟨S4x1024x32, .f32⟩
  | .hbm, ⟨2, _⟩ => ⟨S4096x256, .fp8e4m3⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S256x1, .f32⟩
  | .hbm, ⟨7, _⟩ => ⟨S4x1024x4, .i32⟩
  | .hbm, ⟨8, _⟩ => ⟨S4x1024x4, .f32⟩
  | .local _ .vmem, ⟨0, _⟩ => ⟨S4x1024x4096, .fp8e4m3⟩
  | .local _ .vmem, ⟨1, _⟩ => ⟨S4x1024x32, .f32⟩
  | .local _ .vmem, ⟨2, _⟩ => ⟨S4096x256, .fp8e4m3⟩
  | .local _ .vmem, ⟨3, _⟩ => ⟨S256x1, .f32⟩
  | .local _ .vmem, ⟨4, _⟩ => ⟨S256x1, .f32⟩
  | .local _ .vmem, ⟨5, _⟩ => ⟨S4x1024x4, .i32⟩
  | .local _ .vmem, ⟨6, _⟩ => ⟨S4x1024x4, .f32⟩
  | _, _ => ⟨S4x1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/- The kernel's run with its two results named: the transposes of the two arrays that its grid writes. -/
module

public import proofs.«01_k».proof.Proof.Gen.KernelIdeal.Frame

@[expose] public section

set_option maxRecDepth 16384

noncomputable section

namespace Cert.Router

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The array of experts that the grid writes, over its whole run. -/
abbrev gridIds (c : Dev nD) : Vec F S4x4x1024 .i32 := (dats m 0 c).arrAt 5 cfg0.N
/-- The array of weights that the grid writes, over its whole run. -/
abbrev gridWeights (c : Dev nD) : Vec F S4x4x1024 .f32 := (dats m 0 c).arrAt 6 cfg0.N

/-- After the last host lines the first result is the transposed array of experts. -/
theorem tail_ids (c : Dev nD) :
    Pipeline.afterTail₀ cfgs (dats m) 0 (V0 m) [hostOps1] c main_v5
      = transpose S4x1024x4 [0, 2, 1] (gridIds m c) transposes_S4x4x1024_S4x1024x4_0_2_1 := by
  unfold Pipeline.afterTail₀
  after_results
  exact congrArg (fun v : Vec F S4x4x1024 .i32 => transpose S4x1024x4 [0, 2, 1] v transposes_S4x4x1024_S4x1024x4_0_2_1)
    (Pipeline.withArrays_arr spec0 (by decide) c (V0 m c) (fun w => (dats m 0 c).arrAt w cfg0.N) 5)

/-- After the last host lines the second result is the transposed array of weights. -/
theorem tail_weights (c : Dev nD) :
    Pipeline.afterTail₀ cfgs (dats m) 0 (V0 m) [hostOps1] c main_v6
      = transpose S4x1024x4 [0, 2, 1] (gridWeights m c) transposes_S4x4x1024_S4x1024x4_0_2_1 := by
  unfold Pipeline.afterTail₀
  after_results
  exact congrArg (fun v : Vec F S4x4x1024 .f32 => transpose S4x1024x4 [0, 2, 1] v transposes_S4x4x1024_S4x1024x4_0_2_1)
    (Pipeline.withArrays_arr spec0 (by decide) c (V0 m c) (fun w => (dats m 0 c).arrAt w cfg0.N) 6)

/-- The kernel's run: both results, and the arguments unchanged. -/
theorem kernel_run : θ_run defs (onTc (τ := τ) (main (F := F))) ⟨m, fun _ => 0, ρ⟩ fun r => ∀ c : Dev nD,
      r.2.mem ((c.tc : Thread nD τ).loc main_v5)
        = transpose S4x1024x4 [0, 2, 1] (gridIds m c) transposes_S4x4x1024_S4x1024x4_0_2_1
      ∧ r.2.mem ((c.tc : Thread nD τ).loc main_v6)
        = transpose S4x1024x4 [0, 2, 1] (gridWeights m c) transposes_S4x4x1024_S4x1024x4_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h.1 c).2 main_v5 (Pipeline.mem_restRefs_of main_v5 (by decide) (by decide))).trans (tail_ids m c),
      ((h.1 c).2 main_v6 (Pipeline.mem_restRefs_of main_v6 (by decide) (by decide))).trans (tail_weights m c), h.2 c⟩)
    (θ_run_and (run_main m ρ) (unchanged m ρ))

end Cert.Router
end
-- ==== Proof.Chunk.lean ====
/- What the kernel computes of one chunk of 128 tokens, as whole arrays: the choice scores, the value of a group, its
   rank among the eight groups, the masked choice scores, and four rounds of "take the best expert, record its score,
   remove it". The generated names of the payloads cut the same text at different places in the four chunks; here it
   stands once. -/
module

public import proofs.«01_k».proof.Proof.Gen.KernelIdeal.Skeleton

@[expose] public section

set_option maxRecDepth 16384

noncomputable section

namespace Cert.Router

open Cert.KernelIdeal Cert.KernelIdeal.Gen Idealize.ShloMosaic

variable {F : FTy → Type} [FloatOps F]

/-- The 128 tokens of a chunk in the array of scores, experts in 8 groups of 32. -/
def chunkScores (S : FVec F S256x512 .f32) (off : Fin 2 → Nat) (h : S256x512.Slices off S256x128) :
    FVec F S8x32x128 .f32 :=
  shapeCast S8x32x128 (extractStridedSlice S256x128 off S h) shapeCasts_S256x128_S8x32x128

/-- The choice scores: scores plus the bias of the expert. -/
def choiceOf (s : FVec F S8x32x128 .f32) (b : Vec F S256x1 .f32) : FVec F S8x32x128 .f32 :=
  addf s (broadcastTo S8x32x128 (shapeCast S8x32x1 (shapeCast S256x1 b shapeCasts_S256x1_S256x1)
    shapeCasts_S256x1_S8x32x1) broadcasts_S8x32x1_S8x32x128)

/-- The largest choice score of each group. -/
def bestOf (c : FVec F S8x32x128 .f32) : FVec F S8x1x128 .f32 :=
  shapeCast S8x1x128 (multiReduction .maximumf [1] S8x128 c 0xFF800000#32 reduces_S8x32x128_S8x128 (.inl rfl) rfl)
    shapeCasts_S8x128_S8x1x128

/-- The first place in each group that holds the largest choice score. -/
def bestAtOf (c : FVec F S8x32x128 .f32) : IVec S8x1x128 32 :=
  shapeCast S8x1x128 (multiReductionI .minsi [1] S8x128
    (select (cmpf .oeq c (broadcastTo S8x32x128 (bestOf c) broadcasts_S8x1x128_S8x32x128))
      (iota .tc S8x32x128 32 [1] iota_S8x32x128_d1_w32) (broadcast S8x32x128 32#32))
    2147483647#32 reduces_S8x32x128_S8x128 rfl) shapeCasts_S8x128_S8x1x128

/-- The value of each group: the sum of its two largest choice scores. -/
def groupOf (c : FVec F S8x32x128 .f32) : FVec F S8x128 .f32 :=
  shapeCast S8x128 (addf (bestOf c) (shapeCast S8x1x128 (multiReduction .maximumf [1] S8x128
    (select (cmpi .eq (iota .tc S8x32x128 32 [1] iota_S8x32x128_d1_w32)
        (broadcastTo S8x32x128 (bestAtOf c) broadcasts_S8x1x128_S8x32x128))
      (broadcast S8x32x128 (Scalar.ofBits .f32 0xFF800000#32)) c)
    0xFF800000#32 reduces_S8x32x128_S8x128 (.inl rfl) rfl) shapeCasts_S8x128_S8x1x128)) shapeCasts_S8x1x128_S8x128

/-- One where group `k` (the row `off` of the values `g`) stands before a group: it is worth more, or as much and it
    comes first. -/
def beatsOf (g : FVec F S8x128 .f32) (off : Fin 2 → Nat) (h : S8x128.Slices off S1x128) (k : BitVec 32) :
    IVec S8x128 32 :=
  extui 32 (ori (cmpf .ogt (broadcastTo S8x128 (extractStridedSlice S1x128 off g h) broadcasts_S1x128_S8x128) g)
    (andi (cmpf .oeq (broadcastTo S8x128 (extractStridedSlice S1x128 off g h) broadcasts_S1x128_S8x128) g)
      (cmpi .sgt (iota .tc S8x128 32 [0] iota_S8x128_d0_w32) (broadcast S8x128 k)))) natLt_1_32

/-- The rank of each group: how many groups stand before it. -/
def rankOf (g : FVec F S8x128 .f32) : IVec S8x128 32 :=
  addi (addi (addi (addi (addi (addi (addi (addi (broadcast S8x128 0#32)
    (beatsOf g ![0, 0] slices_S8x128_o0_0_S1x128 0#32))
    (beatsOf g ![1, 0] slices_S8x128_o1_0_S1x128 1#32))
    (beatsOf g ![2, 0] slices_S8x128_o2_0_S1x128 2#32))
    (beatsOf g ![3, 0] slices_S8x128_o3_0_S1x128 3#32))
    (beatsOf g ![4, 0] slices_S8x128_o4_0_S1x128 4#32))
    (beatsOf g ![5, 0] slices_S8x128_o5_0_S1x128 5#32))
    (beatsOf g ![6, 0] slices_S8x128_o6_0_S1x128 6#32))
    (beatsOf g ![7, 0] slices_S8x128_o7_0_S1x128 7#32)

/-- The choice scores of the four best groups, the others at minus infinity. -/
def maskedOf (c : FVec F S8x32x128 .f32) : FVec F S256x128 .f32 :=
  shapeCast S256x128 (select (broadcastTo S8x32x128 (shapeCast S8x1x128 (shapeCast S8x1x128
      (cmpi .slt (rankOf (groupOf c)) (broadcast S8x128 4#32)) shapeCasts_S8x128_S8x1x128)
      shapeCasts_S8x1x128_S8x1x128) broadcasts_S8x1x128_S8x32x128) c
    (broadcast S8x32x128 (Scalar.ofBits .f32 0xFF800000#32))) shapeCasts_S8x32x128_S256x128

/-- The number of the best expert of each token (the first one, if there are several). -/
def selOf (x : FVec F S256x128 .f32) : IVec S1x128 32 :=
  shapeCast S1x128 (multiReductionI .minsi [0] S128
    (select (cmpf .oeq x (broadcastTo S256x128 (shapeCast S1x128 (multiReduction .maximumf [0] S128 x 0xFF800000#32
        reduces_S256x128_S128 (.inl rfl) rfl) shapeCasts_S128_S1x128) broadcasts_S1x128_S256x128))
      (iota .tc S256x128 32 [0] iota_S256x128_d0_w32) (broadcast S256x128 256#32))
    2147483647#32 reduces_S256x128_S128 rfl) shapeCasts_S128_S1x128

/-- Where that expert is. -/
def hitOf (x : FVec F S256x128 .f32) : IVec S256x128 1 :=
  cmpi .eq (iota .tc S256x128 32 [0] iota_S256x128_d0_w32) (broadcastTo S256x128 (selOf x) broadcasts_S1x128_S256x128)

/-- Its score. -/
def pickOf (x s : FVec F S256x128 .f32) : FVec F S1x128 .f32 :=
  shapeCast S1x128 (multiReduction .add [0] S128 (select (hitOf x) s
    (broadcast S256x128 (Scalar.ofBits .f32 0x00000000#32))) 0x00000000#32 reduces_S256x128_S128 (.inl rfl) rfl)
    shapeCasts_S128_S1x128

/-- The choice scores without it. -/
def nextOf (x : FVec F S256x128 .f32) : FVec F S256x128 .f32 :=
  select (hitOf x) (broadcast S256x128 (Scalar.ofBits .f32 0xFF800000#32)) x

/-- The four experts, in order. -/
def idsOf (x : FVec F S256x128 .f32) : IVec S1x4x128 32 :=
  shapeCast S1x4x128 (concatenate S4x128 0 [⟨S1x128, selOf x⟩, ⟨S1x128, selOf (nextOf x)⟩,
    ⟨S1x128, selOf (nextOf (nextOf x))⟩, ⟨S1x128, selOf (nextOf (nextOf (nextOf x)))⟩]
    concatenates_S1x128_S1x128_S1x128_S1x128_S4x128_d0) shapeCasts_S4x128_S1x4x128

/-- Their four scores. -/
def picksOf (x s : FVec F S256x128 .f32) : FVec F S4x128 .f32 :=
  concatenate S4x128 0 [⟨S1x128, pickOf x s⟩, ⟨S1x128, pickOf (nextOf x) s⟩,
    ⟨S1x128, pickOf (nextOf (nextOf x)) s⟩, ⟨S1x128, pickOf (nextOf (nextOf (nextOf x))) s⟩]
    concatenates_S1x128_S1x128_S1x128_S1x128_S4x128_d0

/-- Their four weights: the scores divided by their sum and scaled. -/
def weightsOf (x s : FVec F S256x128 .f32) : FVec F S1x4x128 .f32 :=
  shapeCast S1x4x128 (mulf (divf (picksOf x s) (broadcastTo S4x128 (shapeCast S1x128
    (multiReduction .add [0] S128 (picksOf x s) 0x00000000#32 reduces_S4x128_S128 (.inl rfl) rfl)
    shapeCasts_S128_S1x128) broadcasts_S1x128_S4x128))
    (broadcast S4x128 (Scalar.ofBits .f32 0x40200000#32))) shapeCasts_S4x128_S1x4x128

/-- The experts of a chunk, from its scores and the bias. -/
def chunkIds (s : FVec F S8x32x128 .f32) (b : Vec F S256x1 .f32) : IVec S1x4x128 32 :=
  idsOf (maskedOf (choiceOf s b))

/-- The weights of a chunk, from its scores and the bias. -/
def chunkWeights (s : FVec F S8x32x128 .f32) (b : Vec F S256x1 .f32) : FVec F S1x4x128 .f32 :=
  weightsOf (maskedOf (choiceOf s b)) (shapeCast S256x128 s shapeCasts_S8x32x128_S256x128)

end Cert.Router
end
-- ==== Proof.Block.lean ====
/- What one grid point of the kernel leaves in its two output blocks: four pieces of 128 tokens each, every piece the
   chunk function of the same array of scores. -/
module

public import proofs.«01_k».proof.Proof.Chunk
public import proofs.«01_k».proof.Proof.Gen.KernelIdeal.Frame
public import Idealize.ShloMosaic.Lib.Pipeline.ValueKit

@[expose] public section

set_option maxRecDepth 16384

noncomputable section

namespace Cert.Router

open Cert.KernelIdeal Cert.KernelIdeal.Gen Idealize.ShloMosaic Idealize.ShloMosaic.TcCoe

variable {F : FTy → Type} [FloatOps F]

/-- The scale columns fit in the block of scales. -/
theorem col_slices (k : Fin 32) : S512x32.Slices ![0, k.val] S512x1 :=
  ⟨rfl, fun a => by fin_cases a <;> simp [S512x32, S512x1] <;> omega⟩

/-- Block `k` of 128 columns lies in the block of codes. -/
theorem codes_inb (k : Fin 32) : ∀ a : Fin S512x4096.rank, ![0, 128 * k.val] a + S512x128.size a ≤ S512x4096.size a := by
  intro a
  fin_cases a <;> simp [S512x4096, S512x128] <;> omega

/-- Block `k` of 256 rows lies in the weights. -/
theorem rows_inb (k : Fin 16) : ∀ a : Fin S4096x256.rank, ![256 * k.val, 0] a + S256x256.size a ≤ S4096x256.size a := by
  intro a
  fin_cases a <;> simp [S4096x256, S256x256] <;> omega

/-- Block `k` of 128 columns of the codes, each token's codes times its scale for the block. -/
def scaled (x : Vec F S512x4096 .fp8e4m3) (xs : Vec F S512x32 .f32) (k : Fin 32) : FVec F S512x128 .bf16 :=
  mulf (extf .bf16 (shapeCast S512x128 (View.ld x (Rect.unit ![0, 128 * k.val] S512x128.size (codes_inb k)))
      shapeCasts_S512x128_S512x128) bitsLt_fp8e4m3_bf16)
    (broadcastTo S512x128 (extractStridedSlice S512x1 ![0, k.val]
      (truncf .bf16 (shapeCast S512x32 xs shapeCasts_S512x32_S512x32) bitsLt_bf16_f32) (col_slices k))
      broadcasts_S512x1_S512x128)

/-- Two neighbouring blocks of scaled codes times the 256 rows of the weights that belong to them. -/
def term (x : Vec F S512x4096 .fp8e4m3) (xs : Vec F S512x32 .f32) (w : Vec F S4096x256 .fp8e4m3) (k : Fin 16) :
    FVec F S512x256 .f32 :=
  matmul dot_S512x256_S256x256_S512x256_1_0_0_1_n_n none
    (concatenate S512x256 1 [⟨S512x128, scaled x xs ⟨2 * k.val, by omega⟩⟩, ⟨S512x128, scaled x xs ⟨2 * k.val + 1, by omega⟩⟩]
      concatenates_S512x128_S512x128_S512x256_d1)
    (extf .bf16 (View.ld w (Rect.unit ![256 * k.val, 0] S256x256.size (rows_inb k))) bitsLt_fp8e4m3_bf16)
    (constant S512x256 .f32 0x00000000#32)

/-- The logits before the weights' scale: the sixteen terms added one after another. -/
def logits (x : Vec F S512x4096 .fp8e4m3) (xs : Vec F S512x32 .f32) (w : Vec F S4096x256 .fp8e4m3) : FVec F S512x256 .f32 :=
  addf (addf (addf (addf (addf (addf (addf (addf (addf (addf (addf (addf (addf (addf (addf (addf
    (broadcast S512x256 (Scalar.ofBits .f32 0x00000000#32))
    (term x xs w 0)) (term x xs w 1)) (term x xs w 2)) (term x xs w 3)) (term x xs w 4)) (term x xs w 5))
    (term x xs w 6)) (term x xs w 7)) (term x xs w 8)) (term x xs w 9)) (term x xs w 10)) (term x xs w 11))
    (term x xs w 12)) (term x xs w 13)) (term x xs w 14)) (term x xs w 15)

/-- The scores of the 512 tokens of a grid point, experts in rows. -/
def scoresT (x : Vec F S512x4096 .fp8e4m3) (xs : Vec F S512x32 .f32) (w : Vec F S4096x256 .fp8e4m3) (ws : Vec F S1x256 .f32) :
    FVec F S256x512 .f32 :=
  transpose S256x512 [1, 0] (logistic (mulf (logits x xs w)
    (broadcastTo S512x256 (shapeCast S1x256 ws shapeCasts_S1x256_S1x256) broadcasts_S1x256_S512x256)))
    transposes_S512x256_p1_0_S256x512

/-- The block of experts: the four chunks one after another (the last one stored is listed first). -/
def blockIds (S : FVec F S256x512 .f32) (b : Vec F S256x1 .f32) : Vec F S1x4x512 .i32 :=
  View.canon
    [⟨Rect.unit (s := S1x4x512) ![0, 0, 384] S1x4x128.size inb_S1x4x512_S1x4x128_0_0_384,
        chunkIds (chunkScores S ![0, 384] slices_S256x512_o0_384_S256x128) b⟩,
      ⟨Rect.unit (s := S1x4x512) ![0, 0, 256] S1x4x128.size inb_S1x4x512_S1x4x128_0_0_256,
        chunkIds (chunkScores S ![0, 256] slices_S256x512_o0_256_S256x128) b⟩,
      ⟨Rect.unit (s := S1x4x512) ![0, 0, 128] S1x4x128.size inb_S1x4x512_S1x4x128_0_0_128,
        chunkIds (chunkScores S ![0, 128] slices_S256x512_o0_128_S256x128) b⟩,
      ⟨Rect.unit (s := S1x4x512) ![0, 0, 0] S1x4x128.size inb_S1x4x512_S1x4x128_0_0_0,
        chunkIds (chunkScores S ![0, 0] slices_S256x512_o0_0_S256x128) b⟩]

/-- The block of weights, likewise. -/
def blockWeights (S : FVec F S256x512 .f32) (b : Vec F S256x1 .f32) : Vec F S1x4x512 .f32 :=
  View.canon
    [⟨Rect.unit (s := S1x4x512) ![0, 0, 384] S1x4x128.size inb_S1x4x512_S1x4x128_0_0_384,
        chunkWeights (chunkScores S ![0, 384] slices_S256x512_o0_384_S256x128) b⟩,
      ⟨Rect.unit (s := S1x4x512) ![0, 0, 256] S1x4x128.size inb_S1x4x512_S1x4x128_0_0_256,
        chunkWeights (chunkScores S ![0, 256] slices_S256x512_o0_256_S256x128) b⟩,
      ⟨Rect.unit (s := S1x4x512) ![0, 0, 128] S1x4x128.size inb_S1x4x512_S1x4x128_0_0_128,
        chunkWeights (chunkScores S ![0, 128] slices_S256x512_o0_128_S256x128) b⟩,
      ⟨Rect.unit (s := S1x4x512) ![0, 0, 0] S1x4x128.size inb_S1x4x512_S1x4x128_0_0_0,
        chunkWeights (chunkScores S ![0, 0] slices_S256x512_o0_0_S256x128) b⟩]

variable (m : (ℓ : Loc nD τ sig) → Buf (Elt F) ℓ)

/-- What point `t` leaves in the block of experts. -/
theorem outs_ids (c : Dev nD) (t : Fin cfg0.N) :
    (outsAt0 m c t).1 = blockIds (scoresT (iblk m c 0 t) (iblk m c 1 t) (iblk m c 2 t) (iblk m c 3 t)) (iblk m c 4 t) := by
  unfold outsAt0
  frame_out
  rfl

/-- What point `t` leaves in the block of weights. -/
theorem outs_weights (c : Dev nD) (t : Fin cfg0.N) :
    (outsAt0 m c t).2 = blockWeights (scoresT (iblk m c 0 t) (iblk m c 1 t) (iblk m c 2 t) (iblk m c 3 t)) (iblk m c 4 t) := by
  unfold outsAt0
  frame_out
  rfl

end Cert.Router
end
-- ==== Proof.Column.lean ====
/- The router for one token, over extended reals: from the 256 scores of the token and the 256 biases, the four experts
   and their weights. Both programs compute this function of every token's column of scores. -/
module

public import Idealize.ShloMosaic.Lib.Pointwise

@[expose] public section

set_option maxRecDepth 16384

noncomputable section

namespace Cert.Router

open Idealize.ShloMosaic

/-- The score of expert `e`: the logistic of the scaled sum over the 4096 columns of weight times code times the scale
    of the code's block of 128. -/
def scoreC (x : Fin 4096 → EReal) (xs : Fin 32 → EReal) (w : Fin 4096 → Fin 256 → EReal) (ws : Fin 256 → EReal)
    (e : Fin 256) : EReal :=
  Ideal.logistic ((∑ j : Fin 4096, w j e * (x j * xs ⟨j.val / 128, by omega⟩)) * ws e)

/-- Minus infinity, as both programs write it. -/
abbrev low : EReal := Ideal.ofBits .f32 4286578688#32

/-- The expert number `k` of group `g`. -/
def member (g : Fin 8) (k : Fin 32) : Fin 256 := ⟨g.val * 32 + k.val, by omega⟩

/-- The choice scores in 8 groups of 32: score plus bias. -/
def choiceC (s b : Fin 256 → EReal) (g : Fin 8) (k : Fin 32) : EReal := s (member g k) + b (member g k)

/-- The largest choice score of a group. -/
def bestC (c : Fin 8 → Fin 32 → EReal) (g : Fin 8) : EReal := Finset.univ.fold max low fun k => c g k

/-- The first place in a group that holds the largest choice score. -/
def bestAtC (c : Fin 8 → Fin 32 → EReal) (g : Fin 8) : BitVec 32 :=
  Finset.univ.fold IntOp.minsi 2147483647#32 fun k : Fin 32 =>
    if c g k = bestC c g then BitVec.ofNat 32 k.val else 32#32

/-- The value of a group: the sum of its two largest choice scores. -/
def groupC (c : Fin 8 → Fin 32 → EReal) (g : Fin 8) : EReal :=
  bestC c g + Finset.univ.fold max low fun k : Fin 32 =>
    Scalar.select (IntOp.cmpi .eq (BitVec.ofNat 32 k.val) (bestAtC c g)) low (c g k)

/-- One where group `k` stands before group `g`: it is worth more, or as much and it comes first. -/
def beatsC (v : Fin 8 → EReal) (g k : Fin 8) : BitVec 32 :=
  BitVec.setWidth 32 (IntOp.ori (BitVec.ofBool (decide (v g < v k)))
    (IntOp.andi (BitVec.ofBool (decide (v k = v g))) (IntOp.cmpi .sgt (BitVec.ofNat 32 g.val) (BitVec.ofNat 32 k.val))))

/-- The rank of a group: how many groups stand before it. -/
def rankC (v : Fin 8 → EReal) (g : Fin 8) : BitVec 32 :=
  IntOp.addi (IntOp.addi (IntOp.addi (IntOp.addi (IntOp.addi (IntOp.addi (IntOp.addi (IntOp.addi 0#32
    (beatsC v g 0)) (beatsC v g 1)) (beatsC v g 2)) (beatsC v g 3)) (beatsC v g 4)) (beatsC v g 5)) (beatsC v g 6))
    (beatsC v g 7)

/-- The choice scores of the four best groups, the others at minus infinity. -/
def maskedC (c : Fin 8 → Fin 32 → EReal) (e : Fin 256) : EReal :=
  Scalar.select (IntOp.cmpi .slt (rankC (groupC c) ⟨e.val / 32, by omega⟩) 4#32)
    (c ⟨e.val / 32, by omega⟩ ⟨e.val % 32, by omega⟩) low

/-- The number of the best expert (the first one, if there are several). -/
def selC (x : Fin 256 → EReal) : BitVec 32 :=
  Finset.univ.fold IntOp.minsi 2147483647#32 fun e : Fin 256 =>
    if x e = Finset.univ.fold max low (fun e' => x e') then BitVec.ofNat 32 e.val else 256#32

/-- Its score. -/
def pickC (x s : Fin 256 → EReal) : EReal :=
  ∑ e : Fin 256, Scalar.select (IntOp.cmpi .eq (BitVec.ofNat 32 e.val) (selC x)) (s e) 0

/-- The choice scores without it. -/
def nextC (x : Fin 256 → EReal) (e : Fin 256) : EReal :=
  Scalar.select (IntOp.cmpi .eq (BitVec.ofNat 32 e.val) (selC x)) low (x e)

/-- The choice scores before round `k`. -/
def roundC (x : Fin 256 → EReal) : Fin 4 → Fin 256 → EReal
  | 0 => x
  | 1 => nextC x
  | 2 => nextC (nextC x)
  | 3 => nextC (nextC (nextC x))

/-- The weight of the expert of round `k`: its score divided by the sum of the four scores, and scaled. -/
def weightC (x s : Fin 256 → EReal) (k : Fin 4) : EReal :=
  Ideal.div (pickC (roundC x k) s) (∑ j : Fin 4, pickC (roundC x j) s) * Ideal.ofBits .f32 1075838976#32

/-- The expert that a token takes in round `k`. -/
def expertC (s b : Fin 256 → EReal) (k : Fin 4) : BitVec 32 := selC (roundC (maskedC (choiceC s b)) k)

/-- Its weight. -/
def expertWeightC (s b : Fin 256 → EReal) (k : Fin 4) : EReal := weightC (maskedC (choiceC s b)) s k

end Cert.Router
end
-- ==== Proof.KernelColumn.lean ====
/- The kernel's chunk functions read at one token: each is the column function of that token's column. -/
module

public import proofs.«01_k».proof.Proof.Chunk
public import proofs.«01_k».proof.Proof.Column

@[expose] public section

set_option maxRecDepth 16384

noncomputable section

namespace Cert.Router

open Cert.KernelIdeal Cert.KernelIdeal.Gen Idealize.ShloMosaic

/-- The choice scores of token `r`. -/
theorem choiceOf_at (s : FVec Ideal S8x32x128 .f32) (b : Vec Ideal S256x1 .f32) (g : Fin 8) (k : Fin 32) (r : Fin 128) :
    choiceOf s b (ix3 g k r) = s (ix3 g k r) + b (ix2 (member g k) 0) := by
  pointwise [choiceOf]
  rfl

/-- The largest choice score of a group. -/
theorem bestOf_at (c : FVec Ideal S8x32x128 .f32) (g : Fin 8) (r : Fin 128) :
    bestOf c (ix3 g 0 r) = bestC (fun g k => c (ix3 g k r)) g := by
  pointwise [bestOf]
  rfl

/-- The first place that holds it. -/
theorem bestAtOf_at (c : FVec Ideal S8x32x128 .f32) (g : Fin 8) (r : Fin 128) :
    bestAtOf c (ix3 g 0 r) = bestAtC (fun g k => c (ix3 g k r)) g := by
  pointwise [bestAtOf]
  simp only [bestOf_at]
  rfl

/-- The value of a group. -/
theorem groupOf_at (c : FVec Ideal S8x32x128 .f32) (g : Fin 8) (r : Fin 128) :
    groupOf c (ix2 g r) = groupC (fun g k => c (ix3 g k r)) g := by
  pointwise [groupOf]
  simp only [bestOf_at, bestAtOf_at]
  rfl

/-- The rank of a group. -/
theorem rankOf_at (v : FVec Ideal S8x128 .f32) (g : Fin 8) (r : Fin 128) :
    rankOf v (ix2 g r) = rankC (fun g => v (ix2 g r)) g := by
  pointwise [rankOf, beatsOf]
  rfl

/-- The masked choice scores. -/
theorem maskedOf_at (c : FVec Ideal S8x32x128 .f32) (e : Fin 256) (r : Fin 128) :
    maskedOf c (ix2 e r) = maskedC (fun g k => c (ix3 g k r)) e := by
  pointwise [maskedOf]
  simp only [rankOf_at, groupOf_at]
  rfl

/-- The best expert. -/
theorem selOf_at (x : FVec Ideal S256x128 .f32) (r : Fin 128) :
    selOf x (ix2 0 r) = selC fun e => x (ix2 e r) := by
  pointwise [selOf]
  rfl

/-- Its score. -/
theorem pickOf_at (x s : FVec Ideal S256x128 .f32) (r : Fin 128) :
    pickOf x s (ix2 0 r) = pickC (fun e => x (ix2 e r)) fun e => s (ix2 e r) := by
  pointwise [pickOf, hitOf]
  simp only [selOf_at]
  rfl

/-- The choice scores without it. -/
theorem nextOf_at (x : FVec Ideal S256x128 .f32) (e : Fin 256) (r : Fin 128) :
    nextOf x (ix2 e r) = nextC (fun e => x (ix2 e r)) e := by
  pointwise [nextOf, hitOf]
  simp only [selOf_at]
  rfl

/-- The expert of round `k`. -/
theorem idsOf_at (x : FVec Ideal S256x128 .f32) (k : Fin 4) (r : Fin 128) :
    idsOf x (ix3 0 k r) = selC (roundC (fun e => x (ix2 e r)) k) := by
  pointwise [idsOf]
  fin_cases k <;> simp [selOf_at, nextOf_at] <;> rfl

/-- The score of the expert of round `k`. -/
theorem picksOf_at (x s : FVec Ideal S256x128 .f32) (k : Fin 4) (r : Fin 128) :
    picksOf x s (ix2 k r) = pickC (roundC (fun e => x (ix2 e r)) k) fun e => s (ix2 e r) := by
  pointwise [picksOf]
  fin_cases k <;> simp [pickOf_at, nextOf_at] <;> rfl

/-- The weight of the expert of round `k`. -/
theorem weightsOf_at (x s : FVec Ideal S256x128 .f32) (k : Fin 4) (r : Fin 128) :
    weightsOf x s (ix3 0 k r) = weightC (fun e => x (ix2 e r)) (fun e => s (ix2 e r)) k := by
  pointwise [weightsOf]
  simp only [picksOf_at]
  rfl

/-- The choice scores of a chunk's token, from its 256 scores. -/
theorem choice_column (s : FVec Ideal S8x32x128 .f32) (b : Vec Ideal S256x1 .f32) (r : Fin 128) :
    (fun g k => choiceOf s b (ix3 g k r))
      = choiceC (fun e => s (ix3 ⟨e.val / 32, by omega⟩ ⟨e.val % 32, by omega⟩ r)) fun e => b (ix2 e 0) := by
  funext g k
  have hg : (member g k).val / 32 = g.val := by simp only [member]; omega
  have hk : (member g k).val % 32 = k.val := by simp only [member]; omega
  rw [choiceOf_at]
  simp only [choiceC, hg, hk]

/-- The scores of a chunk in one column are those in groups. -/
theorem regroup_at (s : FVec Ideal S8x32x128 .f32) (e : Fin 256) (r : Fin 128) :
    shapeCast S256x128 s shapeCasts_S8x32x128_S256x128 (ix2 e r)
      = s (ix3 ⟨e.val / 32, by omega⟩ ⟨e.val % 32, by omega⟩ r) := by
  pointwise []

/-- A chunk's experts at token `r`. -/
theorem chunkIds_at (s : FVec Ideal S8x32x128 .f32) (b : Vec Ideal S256x1 .f32) (k : Fin 4) (r : Fin 128) :
    chunkIds s b (ix3 0 k r)
      = expertC (fun e => s (ix3 ⟨e.val / 32, by omega⟩ ⟨e.val % 32, by omega⟩ r)) (fun e => b (ix2 e 0)) k := by
  unfold chunkIds expertC
  rw [idsOf_at, ← choice_column]
  simp only [maskedOf_at]

/-- A chunk's weights at token `r`. -/
theorem chunkWeights_at (s : FVec Ideal S8x32x128 .f32) (b : Vec Ideal S256x1 .f32) (k : Fin 4) (r : Fin 128) :
    chunkWeights s b (ix3 0 k r)
      = expertWeightC (fun e => s (ix3 ⟨e.val / 32, by omega⟩ ⟨e.val % 32, by omega⟩ r)) (fun e => b (ix2 e 0)) k := by
  unfold chunkWeights expertWeightC
  rw [weightsOf_at, ← choice_column]
  simp only [maskedOf_at, regroup_at]

end Cert.Router
end
-- ==== Proof.Scores.lean ====
/- The kernel's scores, read at one token and one expert: the logistic of one sum over all 4096 columns, scaled. The
   kernel adds sixteen terms of two blocks of 128 columns each. -/
module

public import proofs.«01_k».proof.Proof.Block
public import proofs.«01_k».proof.Proof.KernelColumn
public import Idealize.ShloMosaic.Lib.Pointwise

@[expose] public section

set_option maxRecDepth 16384

noncomputable section

namespace Cert.Router

open Cert.KernelIdeal Cert.KernelIdeal.Gen Idealize.ShloMosaic

/-- A scaled code is the code times the scale of its block. -/
theorem scaled_at (x : Vec Ideal S512x4096 .fp8e4m3) (xs : Vec Ideal S512x32 .f32) (k : Fin 32) (r : Fin 512) (q : Fin 128) :
    scaled x xs k (ix2 r q) = x (ix2 r ⟨128 * k.val + q.val, by omega⟩) * xs (ix2 r k) := by
  pointwise [scaled]

/-- The product at column `j` that the logit of token `r` and expert `e` adds. -/
def product (x : Vec Ideal S512x4096 .fp8e4m3) (xs : Vec Ideal S512x32 .f32) (w : Vec Ideal S4096x256 .fp8e4m3)
    (r : Fin 512) (e : Fin 256) (j : Fin 4096) : EReal :=
  w (ix2 j e) * (x (ix2 r j) * xs (ix2 r ⟨j.val / 128, by omega⟩))

/-- A term of the kernel's sum is the products of its two blocks. -/
theorem term_at (x : Vec Ideal S512x4096 .fp8e4m3) (xs : Vec Ideal S512x32 .f32) (w : Vec Ideal S4096x256 .fp8e4m3)
    (k : Fin 16) (r : Fin 512) (e : Fin 256) : term x xs w k (ix2 r e)
      = (∑ q : Fin 128, product x xs w r e ⟨2 * k.val * 128 + q.val, by omega⟩)
        + ∑ q : Fin 128, product x xs w r e ⟨(2 * k.val + 1) * 128 + q.val, by omega⟩ := by
  pointwise [term]
  simp only [scaled_at, product]
  congr 1
  · refine Finset.sum_congr rfl fun q _ => ?_
    have h1 : (⟨128 * (2 * k.val) + q.val, by omega⟩ : Fin 4096) = ⟨2 * k.val * 128 + q.val, by omega⟩ := Fin.ext (by simp; omega)
    have h2 : (⟨256 * k.val + q.val, by omega⟩ : Fin 4096) = ⟨2 * k.val * 128 + q.val, by omega⟩ := Fin.ext (by simp; omega)
    have h3 : (⟨(2 * k.val * 128 + q.val) / 128, by omega⟩ : Fin 32) = ⟨2 * k.val, by omega⟩ := Fin.ext (by simp; omega)
    rw [mul_comm, h1, h2, h3]
  · refine Finset.sum_congr rfl fun q _ => ?_
    have h1 : (⟨128 * (2 * k.val + 1) + q.val, by omega⟩ : Fin 4096) = ⟨(2 * k.val + 1) * 128 + q.val, by omega⟩ :=
      Fin.ext (by simp; omega)
    have h2 : (⟨256 * k.val + (128 + q.val), by omega⟩ : Fin 4096) = ⟨(2 * k.val + 1) * 128 + q.val, by omega⟩ :=
      Fin.ext (by simp; omega)
    have h3 : (⟨((2 * k.val + 1) * 128 + q.val) / 128, by omega⟩ : Fin 32) = ⟨2 * k.val + 1, by omega⟩ :=
      Fin.ext (by simp; omega)
    rw [mul_comm, h1, h2, h3]

/-- Pairs of blocks added one after another are all blocks. -/
theorem sum_pairs (G : Fin 32 → EReal) :
    ∑ k : Fin 16, (G ⟨2 * k.val, by omega⟩ + G ⟨2 * k.val + 1, by omega⟩) = ∑ b : Fin 32, G b := by
  simp only [Fin.sum_univ_succ, Fin.sum_univ_zero, add_assoc]
  rfl

/-- The logit before the scale is the sum of all products. -/
theorem logits_at (x : Vec Ideal S512x4096 .fp8e4m3) (xs : Vec Ideal S512x32 .f32) (w : Vec Ideal S4096x256 .fp8e4m3)
    (r : Fin 512) (e : Fin 256) : logits x xs w (ix2 r e) = ∑ j : Fin 4096, product x xs w r e j := by
  have h : logits x xs w (ix2 r e) = ∑ k : Fin 16, term x xs w k (ix2 r e) := by
    pointwise [logits]
    simp only [Fin.sum_univ_succ, Fin.sum_univ_zero, add_assoc, add_zero]
    rfl
  rw [h]
  simp only [term_at]
  rw [sum_pairs fun b => ∑ q : Fin 128, product x xs w r e ⟨b.val * 128 + q.val, by omega⟩]
  exact Fin.sum_mul_add_fin _ _ _

/-- The score of expert `e` for token `r`. -/
theorem scoresT_at (x : Vec Ideal S512x4096 .fp8e4m3) (xs : Vec Ideal S512x32 .f32) (w : Vec Ideal S4096x256 .fp8e4m3)
    (ws : Vec Ideal S1x256 .f32) (r : Fin 512) (e : Fin 256) :
    scoresT x xs w ws (ix2 e r) = Ideal.logistic ((∑ j : Fin 4096, product x xs w r e j) * ws (ix2 0 e)) := by
  pointwise [scoresT]
  rw [logits_at]

/-- A chunk's scores are the columns of the scores from `o` on. -/
theorem chunkScores_at (S : FVec Ideal S256x512 .f32) (o : ℕ) (h : S256x512.Slices ![0, o] S256x128) (e : Fin 256)
    (r : Fin 128) (l : Fin 512) (hl : l.val = o + r.val) :
    chunkScores S ![0, o] h (ix3 ⟨e.val / 32, by omega⟩ ⟨e.val % 32, by omega⟩ r) = S (ix2 e l) := by
  pointwise [chunkScores]
  congr 2 <;> ext <;> simp <;> omega

/-- An index of a piece with first coordinate zero. -/
theorem piece_idx (i : S1x4x128.Idx) (k : Fin 4) (hk : k.val = (i 1).val) : i = ix3 0 k (i 2) := by
  funext a
  fin_cases a
  · exact Subsingleton.elim (α := Fin 1) _ _
  · exact Fin.ext hk.symm
  · rfl

/-- A piece of the block of experts. -/
theorem piece_ids (S : FVec Ideal S256x512 .f32) (b : Vec Ideal S256x1 .f32) (o : ℕ) (h : S256x512.Slices ![0, o] S256x128)
    (i : S1x4x128.Idx) (k : Fin 4) (l : Fin 512) (hk : k.val = (i 1).val) (hl : l.val = o + (i 2).val) :
    chunkIds (chunkScores S ![0, o] h) b i = expertC (fun e => S (ix2 e l)) (fun e => b (ix2 e 0)) k := by
  rw [piece_idx i k hk]
  refine (chunkIds_at _ b k (i 2)).trans ?_
  simp only [fun e => chunkScores_at S o h e (i 2) l hl]

/-- A piece of the block of weights. -/
theorem piece_weights (S : FVec Ideal S256x512 .f32) (b : Vec Ideal S256x1 .f32) (o : ℕ)
    (h : S256x512.Slices ![0, o] S256x128)
    (i : S1x4x128.Idx) (k : Fin 4) (l : Fin 512) (hk : k.val = (i 1).val) (hl : l.val = o + (i 2).val) :
    chunkWeights (chunkScores S ![0, o] h) b i = expertWeightC (fun e => S (ix2 e l)) (fun e => b (ix2 e 0)) k := by
  rw [piece_idx i k hk]
  refine (chunkWeights_at _ b k (i 2)).trans ?_
  simp only [fun e => chunkScores_at S o h e (i 2) l hl]

/-- The block of experts at lane `l`. -/
theorem blockIds_at (S : FVec Ideal S256x512 .f32) (b : Vec Ideal S256x1 .f32) (k : Fin 4) (l : Fin 512) :
    blockIds S b (ix3 0 k l) = expertC (fun e => S (ix2 e l)) (fun e => b (ix2 e 0)) k := by
  unfold blockIds
  canon_tiles i h
  · exact piece_ids S b 384 _ i k l h1 h2
  · exact piece_ids S b 256 _ i k l h1 h2
  · exact piece_ids S b 128 _ i k l h1 h2
  · exact piece_ids S b 0 _ i k l h1 (by rw [zero_add]; exact h2)

/-- The block of weights at lane `l`. -/
theorem blockWeights_at (S : FVec Ideal S256x512 .f32) (b : Vec Ideal S256x1 .f32) (k : Fin 4) (l : Fin 512) :
    blockWeights S b (ix3 0 k l) = expertWeightC (fun e => S (ix2 e l)) (fun e => b (ix2 e 0)) k := by
  unfold blockWeights
  canon_tiles i h
  · exact piece_weights S b 384 _ i k l h1 h2
  · exact piece_weights S b 256 _ i k l h1 h2
  · exact piece_weights S b 128 _ i k l h1 h2
  · exact piece_weights S b 0 _ i k l h1 (by rw [zero_add]; exact h2)

end Cert.Router
end
-- ==== Proof.Grid.lean ====
/- What the two arrays hold after the kernel's grid of eight points: at sequence `b`, round `k` and place `s` the column
   function of that token. -/
module

public import proofs.«01_k».proof.Proof.Scores
public import proofs.«01_k».proof.Proof.KernelRun

@[expose] public section

set_option maxRecDepth 16384

noncomputable section

namespace Cert.Router

open Cert.KernelIdeal Cert.KernelIdeal.Gen Idealize.ShloMosaic Idealize.ShloMosaic.TcCoe

variable (m : (ℓ : Loc nD τ sig) → Buf (Elt Ideal) ℓ)

/-- Which block each window reads or writes at a point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val / 2, 0, t.val % 2]
    ∧ win0_6.index t = ![t.val / 2, 0, t.val % 2] := by decide +kernel

/-- The scores of the token at place `s` of sequence `b`, from the arguments. -/
def tokenScores (c : Dev nD) (b : Fin 4) (s : Fin 1024) : Fin 256 → EReal :=
  scoreC (fun j => m ((c.tc : Thread nD τ).loc main_arg0) (ix3 b s j))
    (fun q => m ((c.tc : Thread nD τ).loc main_arg1) (ix3 b s q))
    (fun j e => m ((c.tc : Thread nD τ).loc main_arg2) (ix2 j e))
    fun e => m ((c.tc : Thread nD τ).loc main_arg3) (ix1 e)

/-- The biases, from the arguments. -/
def biases (c : Dev nD) (e : Fin 256) : EReal := m ((c.tc : Thread nD τ).loc main_arg4) (ix1 e)

/-- Before the grid the codes stand in one array of 4096 tokens. -/
theorem entry_codes (c : Dev nD) : V m c main_v0
    = shapeCast S4096x4096 (m ((c.tc : Thread nD τ).loc main_arg0)) shapeCasts_S4x1024x4096_S4096x4096 := rfl

/-- So do the scales. -/
theorem entry_scales (c : Dev nD) : V m c main_v1
    = shapeCast S4096x32 (m ((c.tc : Thread nD τ).loc main_arg1)) shapeCasts_S4x1024x32_S4096x32 := rfl

/-- The weights' scales stand in one row. -/
theorem entry_wscales (c : Dev nD) : V m c main_v2
    = shapeCast S1x256 (m ((c.tc : Thread nD τ).loc main_arg3)) shapeCasts_S256_S1x256 := rfl

/-- The biases stand in one column. -/
theorem entry_bias (c : Dev nD) : V m c main_v3
    = shapeCast S256x1 (m ((c.tc : Thread nD τ).loc main_arg4)) shapeCasts_S256_S256x1 := rfl

/-- A code of token `b * 1024 + s`. -/
theorem cast_codes (v : Vec Ideal S4x1024x4096 .fp8e4m3) (n : Fin 4096) (j : Fin 4096) (b : Fin 4) (s : Fin 1024)
    (h : b.val * 1024 + s.val = n.val) :
    shapeCast S4096x4096 v shapeCasts_S4x1024x4096_S4096x4096 (ix2 n j) = v (ix3 b s j) := by
  have hb : n.val / 1024 = b.val := by omega
  have hs : n.val % 1024 = s.val := by omega
  pointwise []
  simp only [hb, hs]

/-- A scale of token `b * 1024 + s`. -/
theorem cast_scales (v : Vec Ideal S4x1024x32 .f32) (n : Fin 4096) (j : Fin 32) (b : Fin 4) (s : Fin 1024)
    (h : b.val * 1024 + s.val = n.val) :
    shapeCast S4096x32 v shapeCasts_S4x1024x32_S4096x32 (ix2 n j) = v (ix3 b s j) := by
  have hb : n.val / 1024 = b.val := by omega
  have hs : n.val % 1024 = s.val := by omega
  pointwise []
  simp only [hb, hs]

/-- A vector in one row. -/
theorem cast_row (v : Vec Ideal S256 .f32) (e : Fin 256) : shapeCast S1x256 v shapeCasts_S256_S1x256 (ix2 0 e) = v (ix1 e) := by
  pointwise []

/-- A vector in one column. -/
theorem cast_column (v : Vec Ideal S256 .f32) (e : Fin 256) :
    shapeCast S256x1 v shapeCasts_S256_S256x1 (ix2 e 0) = v (ix1 e) := by
  pointwise []

/-- The token of lane `r` of point `t`. -/
def laneToken (t : Fin cfg0.N) (r : Fin 512) : Fin 4096 := ⟨t.val * 512 + r.val, by have : t.val < 8 := t.isLt; omega⟩

/-- A point's block of codes. -/
theorem codes_at (c : Dev nD) (t : Fin cfg0.N) (r : Fin 512) (j : Fin 4096) (b : Fin 4) (s : Fin 1024)
    (h : b.val * 1024 + s.val = t.val * 512 + r.val) :
    iblk m c 0 t (ix2 r j) = m ((c.tc : Thread nD τ).loc main_arg0) (ix3 b s j) := by
  refine Eq.trans ?_ ((congrFun (entry_codes m c) _).trans (cast_codes _ (laneToken t r) j b s h))
  blk_ext [iblk, laneToken, idx t]

/-- A point's block of scales. -/
theorem scales_at (c : Dev nD) (t : Fin cfg0.N) (r : Fin 512) (j : Fin 32) (b : Fin 4) (s : Fin 1024)
    (h : b.val * 1024 + s.val = t.val * 512 + r.val) :
    iblk m c 1 t (ix2 r j) = m ((c.tc : Thread nD τ).loc main_arg1) (ix3 b s j) := by
  refine Eq.trans ?_ ((congrFun (entry_scales m c) _).trans (cast_scales _ (laneToken t r) j b s h))
  blk_ext [iblk, laneToken, idx t]

/-- The weights. -/
theorem weights_at (c : Dev nD) (t : Fin cfg0.N) (j : Fin 4096) (e : Fin 256) :
    iblk m c 2 t (ix2 j e) = m ((c.tc : Thread nD τ).loc main_arg2) (ix2 j e) := by
  blk_ext! [iblk, V, idx t]

/-- The weights' scales. -/
theorem wscales_at (c : Dev nD) (t : Fin cfg0.N) (e : Fin 256) :
    iblk m c 3 t (ix2 0 e) = m ((c.tc : Thread nD τ).loc main_arg3) (ix1 e) := by
  refine Eq.trans ?_ ((congrFun (entry_wscales m c) _).trans (cast_row _ e))
  blk_ext [iblk, idx t]

/-- The biases. -/
theorem bias_at (c : Dev nD) (t : Fin cfg0.N) (e : Fin 256) :
    iblk m c 4 t (ix2 e 0) = m ((c.tc : Thread nD τ).loc main_arg4) (ix1 e) := by
  refine Eq.trans ?_ ((congrFun (entry_bias m c) _).trans (cast_column _ e))
  blk_ext [iblk, idx t]

/-- A point's scores are those of its tokens. -/
theorem point_scores (c : Dev nD) (t : Fin cfg0.N) (r : Fin 512) (b : Fin 4) (s : Fin 1024)
    (h : b.val * 1024 + s.val = t.val * 512 + r.val) :
    (fun e => scoresT (iblk m c 0 t) (iblk m c 1 t) (iblk m c 2 t) (iblk m c 3 t) (ix2 e r)) = tokenScores m c b s := by
  funext e
  refine (scoresT_at _ _ _ _ r e).trans ?_
  unfold product tokenScores scoreC
  simp only [fun j => codes_at m c t r j b s h, fun j => scales_at m c t r j b s h, fun j => weights_at m c t j e,
    wscales_at m c t e]

/-- An index of a block begins with zero. -/
theorem block_idx (y : S1x4x512.Idx) : y = ix3 0 (y 1) (y 2) := by
  funext a
  fin_cases a
  · exact Subsingleton.elim (α := Fin 1) _ _
  · rfl
  · rfl

/-- What point `t` leaves in the block of experts, at a token of the array. -/
theorem point_ids (c : Dev nD) (t : Fin cfg0.N) (y : S1x4x512.Idx) (b : Fin 4) (s : Fin 1024)
    (h : b.val * 1024 + s.val = t.val * 512 + (y 2).val) :
    (outsAt0 m c t).1 y = expertC (tokenScores m c b s) (biases m c) (y 1) := by
  rw [outs_ids, block_idx y]
  refine (blockIds_at _ _ (y 1) (y 2)).trans ?_
  rw [point_scores m c t (y 2) b s h]
  simp only [bias_at]
  rfl

/-- What point `t` leaves in the block of weights, at a token of the array. -/
theorem point_weights (c : Dev nD) (t : Fin cfg0.N) (y : S1x4x512.Idx) (b : Fin 4) (s : Fin 1024)
    (h : b.val * 1024 + s.val = t.val * 512 + (y 2).val) :
    (outsAt0 m c t).2 y = expertWeightC (tokenScores m c b s) (biases m c) (y 1) := by
  rw [outs_weights, block_idx y]
  refine (blockWeights_at _ _ (y 1) (y 2)).trans ?_
  rw [point_scores m c t (y 2) b s h]
  simp only [bias_at]
  rfl

/-- The array of experts. -/
theorem gridIds_eq (c : Dev nD) :
    gridIds m c = fun i => expertC (tokenScores m c (i 0) (i 2)) (biases m c) (i 1) := by
  refine (dats m 0 c).arrAt_eq_of_covers 5 _ (by decide +kernel) fun t hf y => ?_
  have h0 : ((win0_5.blk t).view.emb y 0 : Fin 4).val * 1024 + ((win0_5.blk t).view.emb y 2 : Fin 1024).val
      = t.val * 512 + (y 2).val := by
    blk_simp [idx t]
    omega
  have h1 : ((win0_5.blk t).view.emb y 1 : Fin 4) = y 1 := by
    refine Fin.ext ?_
    blk_simp [idx t]
  blk_simp
  rw [after0_5]
  refine (point_ids m c t y _ _ h0).trans ?_
  rw [h1]

/-- The array of weights. -/
theorem gridWeights_eq (c : Dev nD) :
    gridWeights m c = fun i => expertWeightC (tokenScores m c (i 0) (i 2)) (biases m c) (i 1) := by
  refine (dats m 0 c).arrAt_eq_of_covers 6 _ (by decide +kernel) fun t hf y => ?_
  have h0 : ((win0_6.blk t).view.emb y 0 : Fin 4).val * 1024 + ((win0_6.blk t).view.emb y 2 : Fin 1024).val
      = t.val * 512 + (y 2).val := by
    blk_simp [idx t]
    omega
  have h1 : ((win0_6.blk t).view.emb y 1 : Fin 4) = y 1 := by
    refine Fin.ext ?_
    blk_simp [idx t]
  blk_simp
  rw [after0_6]
  refine (point_weights m c t y _ _ h0).trans ?_
  rw [h1]

end Cert.Router
end
-- ==== Proof.RefRouter.lean ====
/- What the reference computes, as whole arrays over all 4096 tokens: the scores, the choice scores, the value and the
   rank of every group, the masked choice scores, and four rounds of "take the best expert, record its score, remove
   it". -/
module

public import proofs.«01_k».proof.Proof.Gen.ReferenceIdeal.Value
public import Idealize.ShloMosaic.Lib.Pipeline.ValueKit

@[expose] public section

set_option maxRecDepth 16384

noncomputable section

namespace Cert.Router.Ref

open Cert.ReferenceIdeal Cert.ReferenceIdeal.Gen Idealize.ShloMosaic Idealize.ShloMosaic.TcCoe

variable {F : FTy → Type} [FloatOps F]

/-- The scores of all tokens, experts in rows: the generated term of the reference's first lines. -/
def scores (x : Vec F S4x1024x4096 .fp8e4m3) (xs : Vec F S4x1024x32 .f32) (w : Vec F S4096x256 .fp8e4m3)
    (ws : Vec F S256x1 .f32) : FVec F S256x4096 .f32 := k0_pay3 x xs w ws

/-- The choice scores: scores plus the bias of the expert, experts in 8 groups of 32. -/
def choiceOf (s : FVec F S256x4096 .f32) (b : Vec F S256x1 .f32) : FVec F S8x32x4096 .f32 :=
  shapeCast S8x32x4096 (addf s (broadcastTo S256x4096 (shapeCast S256x1 b shapeCasts_S256x1_S256x1)
    broadcasts_S256x1_S256x4096)) shapeCasts_S256x4096_S8x32x4096

/-- The largest choice score of each group. -/
def bestOf (c : FVec F S8x32x4096 .f32) : FVec F S8x4096 .f32 :=
  multiReduction .maximumf [1] S8x4096 c 0xFF800000#32 reduces_S8x32x4096_S8x4096 (.inl rfl) rfl

/-- The first place in each group that holds the largest choice score. -/
def bestAtOf (c : FVec F S8x32x4096 .f32) : IVec S8x4096 32 :=
  multiReductionI .minsi [1] S8x4096
    (select (cmpf .oeq c (broadcastTo S8x32x4096 (shapeCast S8x1x4096 (bestOf c) shapeCasts_S8x4096_S8x1x4096)
        broadcasts_S8x1x4096_S8x32x4096))
      (iota .tc S8x32x4096 32 [1] iota_S8x32x4096_d1_w32) (broadcast S8x32x4096 32#32))
    2147483647#32 reduces_S8x32x4096_S8x4096 rfl

/-- The value of each group: the sum of its two largest choice scores. -/
def groupOf (c : FVec F S8x32x4096 .f32) : FVec F S8x4096 .f32 :=
  addf (bestOf c) (multiReduction .maximumf [1] S8x4096
    (select (cmpi .eq (iota .tc S8x32x4096 32 [1] iota_S8x32x4096_d1_w32)
        (broadcastTo S8x32x4096 (shapeCast S8x1x4096 (bestAtOf c) shapeCasts_S8x4096_S8x1x4096)
          broadcasts_S8x1x4096_S8x32x4096))
      (broadcast S8x32x4096 (Scalar.ofBits .f32 0xFF800000#32)) c)
    0xFF800000#32 reduces_S8x32x4096_S8x4096 (.inl rfl) rfl)

/-- The values of the groups `g`, the same for every second index. -/
def rowsOf (g : FVec F S8x4096 .f32) : FVec F S8x8x4096 .f32 :=
  broadcastTo S8x8x4096 (shapeCast S8x1x4096 g shapeCasts_S8x4096_S8x1x4096) broadcasts_S8x1x4096_S8x8x4096

/-- The values of the groups `g`, the same for every first index. -/
def colsOf (g : FVec F S8x4096 .f32) : FVec F S8x8x4096 .f32 :=
  broadcastTo S8x8x4096 (shapeCast S1x8x4096 g shapeCasts_S8x4096_S1x8x4096) broadcasts_S1x8x4096_S8x8x4096

/-- One where the second group stands before the first: it is worth more, or as much and it comes first. -/
def beatsOf (g : FVec F S8x4096 .f32) : IVec S8x8x4096 32 :=
  extui 32 (ori (cmpf .ogt (colsOf g) (rowsOf g)) (andi (cmpf .oeq (colsOf g) (rowsOf g))
    (broadcastTo S8x8x4096 (cmpi .slt (iota .tc S8x8x1 32 [1] iota_S8x8x1_d1_w32) (iota .tc S8x8x1 32 [0] iota_S8x8x1_d0_w32))
      broadcasts_S8x8x1_S8x8x4096))) natLt_1_32

/-- The rank of each group: how many groups stand before it. -/
def rankOf (g : FVec F S8x4096 .f32) : IVec S8x4096 32 :=
  multiReductionI .add [1] S8x4096 (beatsOf g) 0#32 reduces_S8x8x4096_S8x4096 rfl

/-- The choice scores of the four best groups, the others at minus infinity. -/
def maskedOf (c : FVec F S8x32x4096 .f32) : FVec F S256x4096 .f32 :=
  shapeCast S256x4096 (select (broadcastTo S8x32x4096 (shapeCast S8x1x4096 (shapeCast S8x1x4096
      (cmpi .slt (rankOf (groupOf c)) (broadcast S8x4096 4#32)) shapeCasts_S8x4096_S8x1x4096)
      shapeCasts_S8x1x4096_S8x1x4096) broadcasts_S8x1x4096_S8x32x4096) c
    (broadcast S8x32x4096 (Scalar.ofBits .f32 0xFF800000#32))) shapeCasts_S8x32x4096_S256x4096

/-- The number of the best expert of each token (the first one, if there are several). -/
def selOf (x : FVec F S256x4096 .f32) : IVec S4096 32 :=
  multiReductionI .minsi [0] S4096
    (select (cmpf .oeq x (broadcastTo S256x4096 (shapeCast S1x4096 (multiReduction .maximumf [0] S4096 x 0xFF800000#32
        reduces_S256x4096_S4096 (.inl rfl) rfl) shapeCasts_S4096_S1x4096) broadcasts_S1x4096_S256x4096))
      (iota .tc S256x4096 32 [0] iota_S256x4096_d0_w32) (broadcast S256x4096 256#32))
    2147483647#32 reduces_S256x4096_S4096 rfl

/-- Where that expert is. -/
def hitOf (x : FVec F S256x4096 .f32) : IVec S256x4096 1 :=
  cmpi .eq (iota .tc S256x4096 32 [0] iota_S256x4096_d0_w32)
    (broadcastTo S256x4096 (shapeCast S1x4096 (selOf x) shapeCasts_S4096_S1x4096) broadcasts_S1x4096_S256x4096)

/-- Its score. -/
def pickOf (x s : FVec F S256x4096 .f32) : FVec F S4096 .f32 :=
  multiReduction .add [0] S4096 (select (hitOf x) s (broadcast S256x4096 (Scalar.ofBits .f32 0x00000000#32)))
    0x00000000#32 reduces_S256x4096_S4096 (.inl rfl) rfl

/-- The choice scores without it. -/
def nextOf (x : FVec F S256x4096 .f32) : FVec F S256x4096 .f32 :=
  select (hitOf x) (broadcast S256x4096 (Scalar.ofBits .f32 0xFF800000#32)) x

/-- The four experts of each token, in order. -/
def idsOf (x : FVec F S256x4096 .f32) : IVec S4x1024x4 32 :=
  shapeCast S4x1024x4 (concatenate S4096x4 1 [⟨S4096x1, shapeCast S4096x1 (selOf x) shapeCasts_S4096_S4096x1⟩,
    ⟨S4096x1, shapeCast S4096x1 (selOf (nextOf x)) shapeCasts_S4096_S4096x1⟩,
    ⟨S4096x1, shapeCast S4096x1 (selOf (nextOf (nextOf x))) shapeCasts_S4096_S4096x1⟩,
    ⟨S4096x1, shapeCast S4096x1 (selOf (nextOf (nextOf (nextOf x)))) shapeCasts_S4096_S4096x1⟩]
    concatenates_S4096x1_S4096x1_S4096x1_S4096x1_S4096x4_d1) shapeCasts_S4096x4_S4x1024x4

/-- Their four scores. -/
def picksOf (x s : FVec F S256x4096 .f32) : FVec F S4096x4 .f32 :=
  concatenate S4096x4 1 [⟨S4096x1, shapeCast S4096x1 (pickOf x s) shapeCasts_S4096_S4096x1⟩,
    ⟨S4096x1, shapeCast S4096x1 (pickOf (nextOf x) s) shapeCasts_S4096_S4096x1⟩,
    ⟨S4096x1, shapeCast S4096x1 (pickOf (nextOf (nextOf x)) s) shapeCasts_S4096_S4096x1⟩,
    ⟨S4096x1, shapeCast S4096x1 (pickOf (nextOf (nextOf (nextOf x))) s) shapeCasts_S4096_S4096x1⟩]
    concatenates_S4096x1_S4096x1_S4096x1_S4096x1_S4096x4_d1

/-- Their four weights: the scores divided by their sum and scaled. -/
def weightsOf (x s : FVec F S256x4096 .f32) : FVec F S4x1024x4 .f32 :=
  shapeCast S4x1024x4 (mulf (divf (picksOf x s) (broadcastTo S4096x4 (shapeCast S4096x1
    (multiReduction .add [1] S4096 (picksOf x s) 0x00000000#32 reduces_S4096x4_S4096 (.inl rfl) rfl)
    shapeCasts_S4096_S4096x1) broadcasts_S4096x1_S4096x4))
    (broadcast S4096x4 (Scalar.ofBits .f32 0x40200000#32))) shapeCasts_S4096x4_S4x1024x4

/-- The reference's first result. -/
def ids (s : FVec F S256x4096 .f32) (b : Vec F S256x1 .f32) : Vec F S4x1024x4 .i32 := idsOf (maskedOf (choiceOf s b))

/-- The reference's second result. -/
def weights (s : FVec F S256x4096 .f32) (b : Vec F S256x1 .f32) : Vec F S4x1024x4 .f32 := weightsOf (maskedOf (choiceOf s b)) s

theorem out_ids (x : Vec F S4x1024x4096 .fp8e4m3) (xs : Vec F S4x1024x32 .f32) (w : Vec F S4096x256 .fp8e4m3)
    (ws b : Vec F S256x1 .f32) : out0_5 x xs w ws b = ids (scores x xs w ws) b := by
  unfold_out out0_5
  frame_out
  rfl

theorem out_weights (x : Vec F S4x1024x4096 .fp8e4m3) (xs : Vec F S4x1024x32 .f32) (w : Vec F S4096x256 .fp8e4m3)
    (ws b : Vec F S256x1 .f32) : out0_6 x xs w ws b = weights (scores x xs w ws) b := by
  unfold_out out0_6
  frame_out
  rfl

end Cert.Router.Ref
end
-- ==== Proof.RefColumn.lean ====
/- The reference's array functions read at one token: each is the column function of that token's column. -/
module

public import proofs.«01_k».proof.Proof.RefRouter
public import proofs.«01_k».proof.Proof.Column

@[expose] public section

set_option maxRecDepth 16384

noncomputable section

namespace Cert.Router.Ref

open Cert.ReferenceIdeal Cert.ReferenceIdeal.Gen Idealize.ShloMosaic

/-- The choice scores of token `r`. -/
theorem choiceOf_at (s : FVec Ideal S256x4096 .f32) (b : Vec Ideal S256x1 .f32) (g : Fin 8) (k : Fin 32) (r : Fin 4096) :
    choiceOf s b (ix3 g k r) = choiceC (fun e => s (ix2 e r)) (fun e => b (ix2 e 0)) g k := by
  pointwise [choiceOf]
  rfl

/-- The largest choice score of a group. -/
theorem bestOf_at (c : FVec Ideal S8x32x4096 .f32) (g : Fin 8) (r : Fin 4096) :
    bestOf c (ix2 g r) = bestC (fun g k => c (ix3 g k r)) g := by
  pointwise [bestOf]
  rfl

/-- The first place that holds it. -/
theorem bestAtOf_at (c : FVec Ideal S8x32x4096 .f32) (g : Fin 8) (r : Fin 4096) :
    bestAtOf c (ix2 g r) = bestAtC (fun g k => c (ix3 g k r)) g := by
  pointwise [bestAtOf]
  simp only [bestOf_at]
  rfl

/-- The value of a group. -/
theorem groupOf_at (c : FVec Ideal S8x32x4096 .f32) (g : Fin 8) (r : Fin 4096) :
    groupOf c (ix2 g r) = groupC (fun g k => c (ix3 g k r)) g := by
  pointwise [groupOf]
  simp only [bestOf_at, bestAtOf_at]
  rfl

/-- Less for numbers below eight is greater the other way round. -/
theorem slt_eq_sgt (k g : Fin 8) : IntOp.cmpi .slt (BitVec.ofNat 32 k.val) (BitVec.ofNat 32 g.val)
    = IntOp.cmpi .sgt (BitVec.ofNat 32 g.val) (BitVec.ofNat 32 k.val) := by
  revert k g
  decide

/-- Eight ranks added from zero, in the order of the fold and in the order of the kernel. -/
theorem fold_eight (f : Fin 8 → BitVec 32) : Finset.univ.fold IntOp.addi 0#32 f
    = IntOp.addi (IntOp.addi (IntOp.addi (IntOp.addi (IntOp.addi (IntOp.addi (IntOp.addi (IntOp.addi 0#32
      (f 0)) (f 1)) (f 2)) (f 3)) (f 4)) (f 5)) (f 6)) (f 7) := by
  have h : Finset.univ.fold IntOp.addi 0#32 f = IntOp.addi (f 0) (IntOp.addi (f 1) (IntOp.addi (f 2) (IntOp.addi (f 3)
      (IntOp.addi (f 4) (IntOp.addi (f 5) (IntOp.addi (f 6) (IntOp.addi (f 7) 0#32))))))) := rfl
  rw [h]
  simp only [IntOp.addi]
  ac_rfl

/-- The rank of a group. -/
theorem rankOf_at (v : FVec Ideal S8x4096 .f32) (g : Fin 8) (r : Fin 4096) :
    rankOf v (ix2 g r) = rankC (fun g => v (ix2 g r)) g := by
  pointwise [rankOf, beatsOf, rowsOf, colsOf]
  simp only [slt_eq_sgt]
  exact fold_eight _

/-- The masked choice scores. -/
theorem maskedOf_at (c : FVec Ideal S8x32x4096 .f32) (e : Fin 256) (r : Fin 4096) :
    maskedOf c (ix2 e r) = maskedC (fun g k => c (ix3 g k r)) e := by
  pointwise [maskedOf]
  simp only [rankOf_at, groupOf_at]
  rfl

/-- The best expert. -/
theorem selOf_at (x : FVec Ideal S256x4096 .f32) (r : Fin 4096) :
    selOf x (ix1 r) = selC fun e => x (ix2 e r) := by
  pointwise [selOf]
  rfl

/-- Its score. -/
theorem pickOf_at (x s : FVec Ideal S256x4096 .f32) (r : Fin 4096) :
    pickOf x s (ix1 r) = pickC (fun e => x (ix2 e r)) fun e => s (ix2 e r) := by
  pointwise [pickOf, hitOf]
  simp only [selOf_at]
  rfl

/-- The choice scores without it. -/
theorem nextOf_at (x : FVec Ideal S256x4096 .f32) (e : Fin 256) (r : Fin 4096) :
    nextOf x (ix2 e r) = nextC (fun e => x (ix2 e r)) e := by
  pointwise [nextOf, hitOf]
  simp only [selOf_at]
  rfl

/-- The number of the token at place `s` of sequence `b`. -/
def token (b : Fin 4) (s : Fin 1024) : Fin 4096 := ⟨b.val * 1024 + s.val, by omega⟩

/-- The expert of round `k`. -/
theorem idsOf_at (x : FVec Ideal S256x4096 .f32) (b : Fin 4) (s : Fin 1024) (k : Fin 4) :
    idsOf x (ix3 b s k) = selC (roundC (fun e => x (ix2 e (token b s))) k) := by
  pointwise [idsOf]
  fin_cases k <;> simp [selOf_at, nextOf_at] <;> rfl

/-- The score of the expert of round `k`. -/
theorem picksOf_at (x s : FVec Ideal S256x4096 .f32) (k : Fin 4) (r : Fin 4096) :
    picksOf x s (ix2 r k) = pickC (roundC (fun e => x (ix2 e r)) k) fun e => s (ix2 e r) := by
  pointwise [picksOf]
  fin_cases k <;> simp [pickOf_at, nextOf_at] <;> rfl

/-- The weight of the expert of round `k`. -/
theorem weightsOf_at (x d : FVec Ideal S256x4096 .f32) (b : Fin 4) (s : Fin 1024) (k : Fin 4) :
    weightsOf x d (ix3 b s k) = weightC (fun e => x (ix2 e (token b s))) (fun e => d (ix2 e (token b s))) k := by
  pointwise [weightsOf]
  simp only [picksOf_at]
  rfl

/-- The reference's experts. -/
theorem ids_at (d : FVec Ideal S256x4096 .f32) (bias : Vec Ideal S256x1 .f32) (b : Fin 4) (s : Fin 1024) (k : Fin 4) :
    ids d bias (ix3 b s k) = expertC (fun e => d (ix2 e (token b s))) (fun e => bias (ix2 e 0)) k := by
  unfold ids
  rw [idsOf_at]
  simp only [maskedOf_at, choiceOf_at]
  rfl

/-- The reference's weights. -/
theorem weights_at (d : FVec Ideal S256x4096 .f32) (bias : Vec Ideal S256x1 .f32) (b : Fin 4) (s : Fin 1024) (k : Fin 4) :
    weights d bias (ix3 b s k) = expertWeightC (fun e => d (ix2 e (token b s))) (fun e => bias (ix2 e 0)) k := by
  unfold weights
  rw [weightsOf_at]
  simp only [maskedOf_at, choiceOf_at]
  rfl

/-- The reference's score of expert `e` for token `r`. -/
theorem scores_at (x : Vec Ideal S4x1024x4096 .fp8e4m3) (xs : Vec Ideal S4x1024x32 .f32) (w : Vec Ideal S4096x256 .fp8e4m3)
    (ws : Vec Ideal S256x1 .f32) (e : Fin 256) (b : Fin 4) (s : Fin 1024) : scores x xs w ws (ix2 e (token b s))
      = Ideal.logistic ((∑ j : Fin 4096, w (ix2 j e) * (x (ix3 b s j) * xs (ix3 b s ⟨j.val / 128, by omega⟩))) * ws (ix2 e 0)) := by
  have hb : (token b s).val / 1024 = b.val := by simp only [token]; omega
  have hs : (token b s).val % 1024 = s.val := by simp only [token]; omega
  pointwise [scores, k0_pay3]
  simp only [hb, hs]

end Cert.Router.Ref
end
-- ==== Proof.RefArray.lean ====
/- What the reference's two results hold: at sequence `b`, place `s` and round `k` the column function of that token. -/
module

public import proofs.«01_k».proof.Proof.RefColumn

@[expose] public section

set_option maxRecDepth 16384

noncomputable section

namespace Cert.Router.Ref

open Cert.ReferenceIdeal Cert.ReferenceIdeal.Gen Idealize.ShloMosaic Idealize.ShloMosaic.TcCoe

variable (m : (ℓ : Loc nD τ sig) → Buf (Elt Ideal) ℓ)

/-- The one point reads and writes whole arrays. -/
theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0, 0]
    ∧ win0_6.index t = ![0, 0, 0] := by decide +kernel

/-- The scores of the token at place `s` of sequence `b`, from the arguments. -/
def tokenScores (c : Dev nD) (b : Fin 4) (s : Fin 1024) : Fin 256 → EReal :=
  scoreC (fun j => m ((c.tc : Thread nD τ).loc main_arg0) (ix3 b s j))
    (fun q => m ((c.tc : Thread nD τ).loc main_arg1) (ix3 b s q))
    (fun j e => m ((c.tc : Thread nD τ).loc main_arg2) (ix2 j e))
    fun e => m ((c.tc : Thread nD τ).loc main_arg3) (ix1 e)

/-- The biases, from the arguments. -/
def biases (c : Dev nD) (e : Fin 256) : EReal := m ((c.tc : Thread nD τ).loc main_arg4) (ix1 e)

/-- The codes. -/
theorem codes_at (c : Dev nD) (t : Fin cfg0.N) (b : Fin 4) (s : Fin 1024) (j : Fin 4096) :
    iblk m c 0 t (ix3 b s j) = m ((c.tc : Thread nD τ).loc main_arg0) (ix3 b s j) := by
  blk_ext! [iblk, V, idx t]

/-- The scales. -/
theorem scales_at (c : Dev nD) (t : Fin cfg0.N) (b : Fin 4) (s : Fin 1024) (q : Fin 32) :
    iblk m c 1 t (ix3 b s q) = m ((c.tc : Thread nD τ).loc main_arg1) (ix3 b s q) := by
  blk_ext! [iblk, V, idx t]

/-- The weights. -/
theorem codes_w_at (c : Dev nD) (t : Fin cfg0.N) (j : Fin 4096) (e : Fin 256) :
    iblk m c 2 t (ix2 j e) = m ((c.tc : Thread nD τ).loc main_arg2) (ix2 j e) := by
  blk_ext! [iblk, V, idx t]

/-- A vector as a column. -/
theorem column_at (v : Vec Ideal S256 .f32) (e : Fin 256) :
    broadcastInDim S256x1 ![0] bcast_S256_S256x1_0 v (ix2 e 0) = v (ix1 e) := by
  pointwise []

/-- The weights' scales stand in one column. -/
theorem entry_wscales (c : Dev nD) : V m c main_v0
    = broadcastInDim S256x1 ![0] bcast_S256_S256x1_0 (m ((c.tc : Thread nD τ).loc main_arg3)) := rfl

/-- So do the biases. -/
theorem entry_bias (c : Dev nD) : V m c main_v1
    = broadcastInDim S256x1 ![0] bcast_S256_S256x1_0 (m ((c.tc : Thread nD τ).loc main_arg4)) := rfl

/-- The weights' scales. -/
theorem wscales_at (c : Dev nD) (t : Fin cfg0.N) (e : Fin 256) :
    iblk m c 3 t (ix2 e 0) = m ((c.tc : Thread nD τ).loc main_arg3) (ix1 e) := by
  refine Eq.trans ?_ ((congrFun (entry_wscales m c) _).trans (column_at _ e))
  blk_ext [iblk, idx t]

/-- The biases. -/
theorem bias_at (c : Dev nD) (t : Fin cfg0.N) (e : Fin 256) :
    iblk m c 4 t (ix2 e 0) = m ((c.tc : Thread nD τ).loc main_arg4) (ix1 e) := by
  refine Eq.trans ?_ ((congrFun (entry_bias m c) _).trans (column_at _ e))
  blk_ext [iblk, idx t]

/-- The reference's scores of a token. -/
theorem point_scores (c : Dev nD) (t : Fin cfg0.N) (b : Fin 4) (s : Fin 1024) :
    (fun e => scores (iblk m c 0 t) (iblk m c 1 t) (iblk m c 2 t) (iblk m c 3 t) (ix2 e (token b s))) = tokenScores m c b s := by
  funext e
  refine (scores_at _ _ _ _ e b s).trans ?_
  unfold tokenScores scoreC
  simp only [codes_at, scales_at, codes_w_at, wscales_at]

/-- An index by its coordinates. -/
theorem whole_idx (y : S4x1024x4.Idx) : y = ix3 (y 0) (y 1) (y 2) := by
  funext a
  fin_cases a <;> rfl

/-- What the point leaves in the first result. -/
theorem point_ids (c : Dev nD) (t : Fin cfg0.N) (y : S4x1024x4.Idx) :
    out0_5 (iblk m c 0 t) (iblk m c 1 t) (iblk m c 2 t) (iblk m c 3 t) (iblk m c 4 t) y
      = expertC (tokenScores m c (y 0) (y 1)) (biases m c) (y 2) := by
  rw [out_ids, whole_idx y]
  refine (ids_at _ _ (y 0) (y 1) (y 2)).trans ?_
  rw [point_scores m c t (y 0) (y 1)]
  simp only [bias_at]
  rfl

/-- What the point leaves in the second result. -/
theorem point_weights (c : Dev nD) (t : Fin cfg0.N) (y : S4x1024x4.Idx) :
    out0_6 (iblk m c 0 t) (iblk m c 1 t) (iblk m c 2 t) (iblk m c 3 t) (iblk m c 4 t) y
      = expertWeightC (tokenScores m c (y 0) (y 1)) (biases m c) (y 2) := by
  rw [out_weights, whole_idx y]
  refine (weights_at _ _ (y 0) (y 1) (y 2)).trans ?_
  rw [point_scores m c t (y 0) (y 1)]
  simp only [bias_at]
  rfl

/-- The reference's first result. -/
theorem ids_eq (c : Dev nD) : (dats m 0 c).arrAt 5 cfg0.N
    = fun i => expertC (tokenScores m c (i 0) (i 1)) (biases m c) (i 2) := by
  refine (dats m 0 c).arrAt_eq_of_covers 5 _ (by decide +kernel) fun t hf y => ?_
  have h : (win0_5.blk t).view.emb y = y := by
    funext a
    refine Fin.ext ?_
    fin_cases a <;> blk_simp [idx t]
  blk_simp
  rw [after0_5, h]
  exact point_ids m c t y

/-- The reference's second result. -/
theorem weights_eq (c : Dev nD) : (dats m 0 c).arrAt 6 cfg0.N
    = fun i => expertWeightC (tokenScores m c (i 0) (i 1)) (biases m c) (i 2) := by
  refine (dats m 0 c).arrAt_eq_of_covers 6 _ (by decide +kernel) fun t hf y => ?_
  have h : (win0_6.blk t).view.emb y = y := by
    funext a
    refine Fin.ext ?_
    fin_cases a <;> blk_simp [idx t]
  blk_simp
  rw [after0_6, h]
  exact point_weights m c t y

end Cert.Router.Ref
end
-- ==== Proof.Equation.lean ====
/- The two programs' results are the same arrays when their arguments agree. -/
module

public import proofs.«01_k».proof.Proof.Grid
public import proofs.«01_k».proof.Proof.RefArray

@[expose] public section

set_option maxRecDepth 16384

noncomputable section

namespace Cert.Router

open Idealize.ShloMosaic

/-- The arguments of the two programs agree on a device. -/
def Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD) : Prop :=
  m' ((c.tc : Thread ReferenceIdeal.nD ReferenceIdeal.τ).loc ReferenceIdeal.main_arg0)
      = m ((c.tc : Thread KernelIdeal.nD KernelIdeal.τ).loc KernelIdeal.main_arg0)
    ∧ m' ((c.tc : Thread ReferenceIdeal.nD ReferenceIdeal.τ).loc ReferenceIdeal.main_arg1)
      = m ((c.tc : Thread KernelIdeal.nD KernelIdeal.τ).loc KernelIdeal.main_arg1)
    ∧ m' ((c.tc : Thread ReferenceIdeal.nD ReferenceIdeal.τ).loc ReferenceIdeal.main_arg2)
      = m ((c.tc : Thread KernelIdeal.nD KernelIdeal.τ).loc KernelIdeal.main_arg2)
    ∧ m' ((c.tc : Thread ReferenceIdeal.nD ReferenceIdeal.τ).loc ReferenceIdeal.main_arg3)
      = m ((c.tc : Thread KernelIdeal.nD KernelIdeal.τ).loc KernelIdeal.main_arg3)
    ∧ m' ((c.tc : Thread ReferenceIdeal.nD ReferenceIdeal.τ).loc ReferenceIdeal.main_arg4)
      = m ((c.tc : Thread KernelIdeal.nD KernelIdeal.τ).loc KernelIdeal.main_arg4)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The scores of a token are the same. -/
theorem scores_agree (c : Dev KernelIdeal.nD) (h : Agree m m' c) (b : Fin 4) (s : Fin 1024) :
    Ref.tokenScores m' c b s = tokenScores m c b s := by
  unfold Ref.tokenScores tokenScores
  rw [h.1, h.2.1, h.2.2.1, h.2.2.2.1]

/-- The biases are the same. -/
theorem biases_agree (c : Dev KernelIdeal.nD) (h : Agree m m' c) : Ref.biases m' c = biases m c := by
  funext e
  unfold Ref.biases biases
  rw [h.2.2.2.2]

/-- The first results are equal. -/
theorem ids_agree (c : Dev KernelIdeal.nD) (h : Agree m m' c) :
    (ReferenceIdeal.Gen.dats m' 0 c).arrAt 5 ReferenceIdeal.cfg0.N
      = transpose KernelIdeal.S4x1024x4 [0, 2, 1] (gridIds m c) KernelIdeal.Gen.transposes_S4x4x1024_S4x1024x4_0_2_1 := by
  rw [Ref.ids_eq, gridIds_eq]
  funext i
  pointwise []
  exact congrArg₂ (fun s b => expertC s b (i 2)) (scores_agree m m' c h (i 0) (i 1)) (biases_agree m m' c h)

/-- The second results are equal. -/
theorem weights_agree (c : Dev KernelIdeal.nD) (h : Agree m m' c) :
    (ReferenceIdeal.Gen.dats m' 0 c).arrAt 6 ReferenceIdeal.cfg0.N
      = transpose KernelIdeal.S4x1024x4 [0, 2, 1] (gridWeights m c) KernelIdeal.Gen.transposes_S4x4x1024_S4x1024x4_0_2_1 := by
  rw [Ref.weights_eq, gridWeights_eq]
  funext i
  pointwise []
  exact congrArg₂ (fun s b => expertWeightC s b (i 2)) (scores_agree m m' c h (i 0) (i 1)) (biases_agree m m' c h)

end Cert.Router
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Both runs end with the same two arrays. -/
theorem algebraic : Cert.algebraic_KernelIdeal_ReferenceIdeal := fun m g m' g' _ hagree =>
  ⟨_, _, Cert.Router.kernel_run m g, (θ_run _ _ _).mono
    (fun _ h c => ⟨(h c).1.trans (Cert.Router.ids_agree m m' c (hagree c)),
      (h c).2.1.trans (Cert.Router.weights_agree m m' c (hagree c)), (h c).2.2⟩)
    (Cert.ReferenceIdeal.Value.run_blocks m' g')⟩

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
